-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "half_log2e" .f32 0x3F38AA3B#32 (((1 / 2) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S384x256 : Shape := ⟨2, ![384, 256]⟩
abbrev S256 : Shape := ⟨1, ![256]⟩
abbrev S300000 : Shape := ⟨1, ![300000]⟩
abbrev S30x1x10000 : Shape := ⟨3, ![30, 1, 10000]⟩
abbrev S3x128x256 : Shape := ⟨3, ![3, 128, 256]⟩
abbrev S_ : Shape := ⟨0, ![]⟩
abbrev S1x128 : Shape := ⟨2, ![1, 128]⟩
abbrev S1x256 : Shape := ⟨2, ![1, 256]⟩
abbrev S256x256 : Shape := ⟨2, ![256, 256]⟩
abbrev S10000x128 : Shape := ⟨2, ![10000, 128]⟩
abbrev S1x1x10000 : Shape := ⟨3, ![1, 1, 10000]⟩
abbrev S10000x256 : Shape := ⟨2, ![10000, 256]⟩
abbrev S1x10000 : Shape := ⟨2, ![1, 10000]⟩
abbrev S256x10000 : Shape := ⟨2, ![256, 10000]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 31
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S100000x128, .f32⟩
  | .hbm, ⟨3, _⟩ => ⟨S100000, .i32⟩
  | .hbm, ⟨4, _⟩ => ⟨S100000, .i32⟩
  | .hbm, ⟨5, _⟩ => ⟨S100000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S384x256, .f32⟩
  | .hbm, ⟨13, _⟩ => ⟨S256, .f32⟩
  | .hbm, ⟨14, _⟩ => ⟨S300000, .i32⟩
  | .hbm, ⟨15, _⟩ => ⟨S30x1x10000, .i32⟩
  | .hbm, ⟨16, _⟩ => ⟨S3x128x256, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S1x256, .f32⟩
  | .hbm, ⟨30, _⟩ => ⟨S256x256, .f32⟩
  | .local _ .vmem, ⟨0, _⟩ => ⟨S10000x128, .f32⟩
  | .local _ .vmem, ⟨1, _⟩ => ⟨S10000x128, .f32⟩
  | .local _ .vmem, ⟨2, _⟩ => ⟨S1x1x10000, .i32⟩
  | .local _ .vmem, ⟨3, _⟩ => ⟨S1x1x10000, .i32⟩
  | .local _ .vmem, ⟨4, _⟩ => ⟨S10000x128, .f32⟩
  | .local _ .vmem, ⟨5, _⟩ => ⟨S10000x128, .f32⟩
  | .local _ .vmem, ⟨6, _⟩ => ⟨S1x1x10000, .i32⟩
  | .local _ .vmem, ⟨7, _⟩ => ⟨S1x1x10000, .i32⟩
  | .local _ .vmem, ⟨8, _⟩ => ⟨S10000x128, .f32⟩
  | .local _ .vmem, ⟨9, _⟩ => ⟨S10000x128, .f32⟩
  | .local _ .vmem, ⟨10, _⟩ => ⟨S1x1x10000, .i32⟩
  | .local _ .vmem, ⟨11, _⟩ => ⟨S1x1x10000, .i32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S3x128x256, .f32⟩
  | .local _ .vmem, ⟨19, _⟩ => ⟨S1x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_cst_0 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_cst_1 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_v0 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v102 : BitVec 1 := Scalar.cmpi .eq arg0 c9_i32
  let v103 : BitVec 32 := Scalar.extui v102
  let c0_i32_56 : BitVec 32 := 0#32
  let v104 : BitVec 1 := Scalar.cmpi .ne v103 c0_i32_56
  v104

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x10000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x10000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x10000 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== KernelIdeal.lean ====
variable {F : FTy → Type} [FloatOps F] [Named F]
def κ : String → Option EReal := fun
  | "half_log2e" => some (((1 / 2) * (Real.log 2)⁻¹ : ℝ) : EReal)
  | _ => none
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S384x256 : Shape := ⟨2, ![384, 256]⟩
abbrev S256 : Shape := ⟨1, ![256]⟩
abbrev S1x128 : Shape := ⟨2, ![1, 128]⟩
abbrev S_ : Shape := ⟨0, ![]⟩
abbrev S100000x1x1 : Shape := ⟨3, ![100000, 1, 1]⟩
abbrev S1x256x1 : Shape := ⟨3, ![1, 256, 1]⟩
abbrev S100000x256x1 : Shape := ⟨3, ![100000, 256, 1]⟩
abbrev S100000x1x128 : Shape := ⟨3, ![100000, 1, 128]⟩
abbrev S100000x256x128 : Shape := ⟨3, ![100000, 256, 128]⟩
abbrev S256x128 : Shape := ⟨2, ![256, 128]⟩
abbrev S100000x1 : Shape := ⟨2, ![100000, 1]⟩
abbrev S256x384 : Shape := ⟨2, ![256, 384]⟩
abbrev S256x256 : Shape := ⟨2, ![256, 256]⟩
abbrev S1x256 : Shape := ⟨2, ![1, 256]⟩

abbrev nBuf : Space → Nat
  | .hbm => 262
  | .vmem => 0
  | .smem => 0
  | _ => 0

abbrev hbmTy0_0 (i : Nat) : BufTy := match i % 128 with
  | 0 => ⟨S100000x128, .f32⟩
  | 1 => ⟨S100000x128, .f32⟩
  | 2 => ⟨S100000x128, .f32⟩
  | 3 => ⟨S100000, .i32⟩
  | 4 => ⟨S100000, .i32⟩
  | 5 => ⟨S100000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S384x256, .f32⟩
  | 13 => ⟨S256, .f32⟩
  | 14 => ⟨S100000x128, .f32⟩
  | 15 => ⟨S1x128, .f32⟩
  | 16 => ⟨S100000x128, .f32⟩
  | 17 => ⟨S100000x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S100000x1x1, .i32⟩
  | 27 => ⟨S256, .i32⟩
  | 28 => ⟨S1x256x1, .i32⟩
  | 29 => ⟨S100000x256x1, .i32⟩
  | 30 => ⟨S100000x256x1, .i32⟩
  | 31 => ⟨S100000x256x1, .i1⟩
  | 32 => ⟨S100000x1x128, .f32⟩
  | 33 => ⟨S_, .f32⟩
  | 34 => ⟨S_, .f32⟩
  | 35 => ⟨S100000x256x128, .i1⟩
  | 36 => ⟨S100000x256x128, .f32⟩
  | 37 => ⟨S100000x256x128, .f32⟩
  | 38 => ⟨S100000x256x128, .f32⟩
  | 39 => ⟨S_, .f32⟩
  | 40 => ⟨S256x128, .f32⟩
  | 41 => ⟨S_, .f32⟩
  | 42 => ⟨S256x128, .f32⟩
  | 43 => ⟨S256x128, .i1⟩
  | 44 => ⟨S_, .f32⟩
  | 45 => ⟨S_, .f32⟩
  | 46 => ⟨S256x128, .f32⟩
  | 47 => ⟨S256x128, .f32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x128, .f32⟩
  | 57 => ⟨S100000x128, .f32⟩
  | 58 => ⟨S100000x128, .f32⟩
  | 59 => ⟨S_, .f32⟩
  | 60 => ⟨S256x128, .f32⟩
  | 61 => ⟨S100000x1, .i32⟩
  | 62 => ⟨S256x128, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x128, .f32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S256x128, .f32⟩
  | 93 => ⟨S100000x1, .i32⟩
  | 94 => ⟨S256x128, .f32⟩
  | 95 => ⟨S100000x128, .f32⟩
  | 96 => ⟨S1x128, .f32⟩
  | 97 => ⟨S100000x128, .f32⟩
  | 98 => ⟨S100000x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x1x1, .i32⟩
  | 108 => ⟨S256, .i32⟩
  | 109 => ⟨S1x256x1, .i32⟩
  | 110 => ⟨S100000x256x1, .i32⟩
  | 111 => ⟨S100000x256x1, .i32⟩
  | 112 => ⟨S100000x256x1, .i1⟩
  | 113 => ⟨S100000x1x128, .f32⟩
  | 114 => ⟨S_, .f32⟩
  | 115 => ⟨S_, .f32⟩
  | 116 => ⟨S100000x256x128, .i1⟩
  | 117 => ⟨S100000x256x128, .f32⟩
  | 118 => ⟨S100000x256x128, .f32⟩
  | 119 => ⟨S100000x256x128, .f32⟩
  | 120 => ⟨S_, .f32⟩
  | 121 => ⟨S256x128, .f32⟩
  | 122 => ⟨S_, .f32⟩
  | 123 => ⟨S256x128, .f32⟩
  | 124 => ⟨S256x128, .i1⟩
  | 125 => ⟨S_, .f32⟩
  | 126 => ⟨S_, .f32⟩
  | 127 => ⟨S256x128, .f32⟩
  | _ => ⟨S100000x128, .f32⟩

abbrev hbmTy0_1 (i : Nat) : BufTy := match i % 128 with
  | 0 => ⟨S256x128, .f32⟩
  | 1 => ⟨S_, .i32⟩
  | 2 => ⟨S100000, .i32⟩
  | 3 => ⟨S100000, .i1⟩
  | 4 => ⟨S_, .i32⟩
  | 5 => ⟨S100000, .i32⟩
  | 6 => ⟨S100000, .i32⟩
  | 7 => ⟨S100000, .i32⟩
  | 8 => ⟨S100000x1, .i32⟩
  | 9 => ⟨S100000x128, .f32⟩
  | 10 => ⟨S100000x128, .f32⟩
  | 11 => ⟨S100000x128, .f32⟩
  | 12 => ⟨S_, .f32⟩
  | 13 => ⟨S256x128, .f32⟩
  | 14 => ⟨S100000x1, .i32⟩
  | 15 => ⟨S256x128, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x128, .f32⟩
  | 25 => ⟨S_, .i32⟩
  | 26 => ⟨S100000, .i32⟩
  | 27 => ⟨S100000, .i1⟩
  | 28 => ⟨S_, .i32⟩
  | 29 => ⟨S100000, .i32⟩
  | 30 => ⟨S100000, .i32⟩
  | 31 => ⟨S100000, .i32⟩
  | 32 => ⟨S100000x1, .i32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S100000x128, .f32⟩
  | 43 => ⟨S100000x128, .f32⟩
  | 44 => ⟨S_, .f32⟩
  | 45 => ⟨S256x128, .f32⟩
  | 46 => ⟨S100000x1, .i32⟩
  | 47 => ⟨S256x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x1x1, .i32⟩
  | 61 => ⟨S256, .i32⟩
  | 62 => ⟨S1x256x1, .i32⟩
  | 63 => ⟨S100000x256x1, .i32⟩
  | 64 => ⟨S100000x256x1, .i32⟩
  | 65 => ⟨S100000x256x1, .i1⟩
  | 66 => ⟨S100000x1x128, .f32⟩
  | 67 => ⟨S_, .f32⟩
  | 68 => ⟨S_, .f32⟩
  | 69 => ⟨S100000x256x128, .i1⟩
  | 70 => ⟨S100000x256x128, .f32⟩
  | 71 => ⟨S100000x256x128, .f32⟩
  | 72 => ⟨S100000x256x128, .f32⟩
  | 73 => ⟨S_, .f32⟩
  | 74 => ⟨S256x128, .f32⟩
  | 75 => ⟨S_, .f32⟩
  | 76 => ⟨S256x128, .f32⟩
  | 77 => ⟨S256x128, .i1⟩
  | 78 => ⟨S_, .f32⟩
  | 79 => ⟨S_, .f32⟩
  | 80 => ⟨S256x128, .f32⟩
  | 81 => ⟨S256x128, .f32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x128, .f32⟩
  | 91 => ⟨S100000x128, .f32⟩
  | 92 => ⟨S100000x128, .f32⟩
  | 93 => ⟨S_, .f32⟩
  | 94 => ⟨S256x128, .f32⟩
  | 95 => ⟨S100000x1, .i32⟩
  | 96 => ⟨S256x128, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x128, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S_, .f32⟩
  | 126 => ⟨S256x128, .f32⟩
  | 127 => ⟨S100000x1, .i32⟩
  | _ => ⟨S100000x128, .f32⟩

abbrev hbmTy0_2 (i : Nat) : BufTy := match i % 128 with
  | 0 => ⟨S256x128, .f32⟩
  | 1 => ⟨S256x384, .f32⟩
  | 2 => ⟨S256x256, .f32⟩
  | 3 => ⟨S1x256, .f32⟩
  | 4 => ⟨S256x256, .f32⟩
  | 5 => ⟨S256x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_c_8 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_9 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_cst_15 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_call2_v3 : Ref sig .tc := ⟨.hbm, 118, rfl⟩
abbrev main_v76 : Ref sig .tc := ⟨.hbm, 119, rfl⟩
abbrev main_cst_17 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_cst_19 : Ref sig .tc := ⟨.hbm, 125, rfl⟩
abbrev main_call3_v0 : Ref sig .tc := ⟨.hbm, 126, rfl⟩
abbrev main_call3_v1 : Ref sig .tc := ⟨.hbm, 127, rfl⟩
abbrev main_v80 : Ref sig .tc := ⟨.hbm, 128, rfl⟩
abbrev main_c_20 : Ref sig .tc := ⟨.hbm, 129, rfl⟩
abbrev main_v81 : Ref sig .tc := ⟨.hbm, 130, rfl⟩
abbrev main_v82 : Ref sig .tc := ⟨.hbm, 131, rfl⟩
abbrev main_c_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_22 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_23 : Ref sig .tc := ⟨.hbm, 144, rfl⟩
abbrev main_v93 : Ref sig .tc := ⟨.hbm, 145, rfl⟩
abbrev main_v94 : Ref sig .tc := ⟨.hbm, 146, rfl⟩
abbrev main_c_24 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_25 : Ref sig .tc := ⟨.hbm, 153, rfl⟩
abbrev main_v100 : Ref sig .tc := ⟨.hbm, 154, rfl⟩
abbrev main_v101 : Ref sig .tc := ⟨.hbm, 155, rfl⟩
abbrev main_c_26 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_27 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_28 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_29 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_30 : Ref sig .tc := ⟨.hbm, 182, rfl⟩
abbrev main_v124 : Ref sig .tc := ⟨.hbm, 183, rfl⟩
abbrev main_v125 : Ref sig .tc := ⟨.hbm, 184, rfl⟩
abbrev main_cst_31 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_32 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_call4_v3 : Ref sig .tc := ⟨.hbm, 199, rfl⟩
abbrev main_v135 : Ref sig .tc := ⟨.hbm, 200, rfl⟩
abbrev main_cst_33 : Ref sig .tc := ⟨.hbm, 201, rfl⟩
abbrev main_v136 : Ref sig .tc := ⟨.hbm, 202, rfl⟩
abbrev main_cst_34 : Ref sig .tc := ⟨.hbm, 203, rfl⟩
abbrev main_v137 : Ref sig .tc := ⟨.hbm, 204, rfl⟩
abbrev main_v138 : Ref sig .tc := ⟨.hbm, 205, rfl⟩
abbrev main_cst_35 : Ref sig .tc := ⟨.hbm, 206, rfl⟩
abbrev main_call5_v0 : Ref sig .tc := ⟨.hbm, 207, rfl⟩
abbrev main_call5_v1 : Ref sig .tc := ⟨.hbm, 208, rfl⟩
abbrev main_v139 : Ref sig .tc := ⟨.hbm, 209, rfl⟩
abbrev main_c_36 : Ref sig .tc := ⟨.hbm, 210, rfl⟩
abbrev main_v140 : Ref sig .tc := ⟨.hbm, 211, rfl⟩
abbrev main_v141 : Ref sig .tc := ⟨.hbm, 212, rfl⟩
abbrev main_c_37 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_38 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_c_39 : Ref sig .tc := ⟨.hbm, 225, rfl⟩
abbrev main_v152 : Ref sig .tc := ⟨.hbm, 226, rfl⟩
abbrev main_v153 : Ref sig .tc := ⟨.hbm, 227, rfl⟩
abbrev main_c_40 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_c_41 : Ref sig .tc := ⟨.hbm, 234, rfl⟩
abbrev main_v159 : Ref sig .tc := ⟨.hbm, 235, rfl⟩
abbrev main_v160 : Ref sig .tc := ⟨.hbm, 236, rfl⟩
abbrev main_c_42 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_43 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_44 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_45 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩

abbrev nD : Nat := 1
abbrev τ : Topo := Topo.v7x

variable {F : FTy → Type} [FloatOps F]
-- ==== Proof.Maths.lean ====
module

public import Idealize.ShloMosaic.Lib.Pointwise

@[expose] public section

set_option maxRecDepth 16384

noncomputable section

namespace Cert.Agg

open Idealize.ShloMosaic

/-- The logistic gate of an extended real score: a real number between 0 and 1. -/
def sg : EReal → ℝ
  | ⊥ => 0
  | ⊤ => 1
  | (r : ℝ) => 1 / (1 + Real.exp (-r))

theorem sg_bot : sg ⊥ = 0 := rfl
theorem sg_top : sg ⊤ = 1 := rfl
theorem sg_coe (r : ℝ) : sg (r : EReal) = 1 / (1 + Real.exp (-r)) := rfl

/-- The gate as the reference spells it. -/
theorem gate_eq (z : EReal) : Ideal.div 1 (1 + Ideal.exp (-z)) = (sg z : EReal) := by
  induction z with
  | bot =>
    rw [sg_bot, EReal.neg_bot]
    show Ideal.div 1 (1 + ⊤) = _
    rw [EReal.add_top_of_ne_bot (by rw [← EReal.coe_one]; exact EReal.coe_ne_bot 1)]
    simp [Ideal.div]
  | top =>
    rw [sg_top, EReal.neg_top]
    show Ideal.div 1 (1 + 0) = _
    simp [Ideal.div]
  | coe r =>
    have hp : (0 : ℝ) < 1 + Real.exp (-r) := by positivity
    rw [sg_coe, ← EReal.coe_neg, Ideal.exp_coe, ← EReal.coe_one, ← EReal.coe_add, Ideal.div_coe hp.ne', ← EReal.coe_mul,
      one_mul]

/-- Half the hyperbolic tangent of half a real is its logistic gate less one half. -/
theorem tanh_half (r : ℝ) : Real.tanh (1 / 2 * r) * (1 / 2) = 1 / (1 + Real.exp (-r)) - 1 / 2 := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have ha := Real.exp_pos (1 / 2 * r)
  have hb := Real.exp_pos (-(1 / 2 * r))
  rw [Real.tanh_eq, h1]
  generalize Real.exp (1 / 2 * r) = a at *
  generalize Real.exp (-(1 / 2 * r)) = b at *
  have hs : a + b ≠ 0 := by positivity
  have ht : 1 + b * b ≠ 0 := by positivity
  field_simp
  nlinarith [h2]

/-- A power of two whose exponent carries the factor `1 / log 2` is an exponential. -/
theorem two_rpow (t : ℝ) : Real.rpow 2 (1 / 2 * (Real.log 2)⁻¹ * t) = Real.exp (t * (1 / 2)) := by
  show (2 : ℝ) ^ (1 / 2 * (Real.log 2)⁻¹ * t) = _
  have hl : Real.log 2 ≠ 0 := (Real.log_pos (by norm_num)).ne'
  rw [Real.rpow_def_of_pos (by norm_num)]
  congr 1
  field_simp

/-- The unnormalised weight as the kernel spells it: the exponential of the gate less one half. -/
theorem weight_eq (z : EReal) :
    Ideal.exp2 (((1 / 2 * (Real.log 2)⁻¹ : ℝ) : EReal) * Ideal.tanh (((1 / 2 : ℝ) : EReal) * z))
      = ((Real.exp (sg z - 1 / 2) : ℝ) : EReal) := by
  induction z with
  | bot =>
    rw [EReal.coe_mul_bot_of_pos (by norm_num : (0 : ℝ) < 1 / 2)]
    show Ideal.exp2 (_ * (-1)) = _
    rw [← EReal.coe_one, ← EReal.coe_neg, ← EReal.coe_mul, Ideal.exp2_coe, two_rpow, sg_bot]
    congr 2; norm_num
  | top =>
    rw [EReal.coe_mul_top_of_pos (by norm_num : (0 : ℝ) < 1 / 2)]
    show Ideal.exp2 (_ * 1) = _
    rw [← EReal.coe_one, ← EReal.coe_mul, Ideal.exp2_coe, two_rpow, sg_top]
    congr 2; norm_num
  | coe r =>
    rw [← EReal.coe_mul, Ideal.tanh_coe, ← EReal.coe_mul, Ideal.exp2_coe, two_rpow, tanh_half, sg_coe]

/-- A nonnegative real factor distributes over a sum of extended reals. -/
theorem sum_scale {ι : Type*} (c : ℝ) (hc : 0 ≤ c) (s : Finset ι) (f : ι → EReal) :
    ∑ i ∈ s, (c : EReal) * f i = (c : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.2 hc) (EReal.coe_ne_top c)]

/-- A score computed from halved operands is half the score. -/
theorem half_score {ι : Type*} (s : Finset ι) (c : ℝ) (hc : 0 ≤ c) (x w : ι → EReal) (b : EReal) :
    ∑ i ∈ s, x i * (w i * (c : EReal)) + (c : EReal) * b = (c : EReal) * (∑ i ∈ s, x i * w i + b) := by
  rw [EReal.left_distrib_of_nonneg_of_ne_top (EReal.coe_nonneg.2 hc) (EReal.coe_ne_top c), ← sum_scale c hc]
  congr 1
  refine Finset.sum_congr rfl fun i _ => ?_
  rw [← mul_assoc, mul_comm]

/-- A finite sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- One segment's aggregate: weights shifted by any real `m` and normalised one row at a time give the quotient of
    the two segment sums of weights shifted by one half. -/
theorem aggregate {ι : Type*} (M : Finset ι) (g : ι → ℝ) (x : ι → EReal) (m ε : ℝ) (hε : 0 < ε) :
    ∑ n ∈ M, Ideal.div (Ideal.exp ((g n : EReal) - (m : EReal)))
        ((∑ k ∈ M, Ideal.exp ((g k : EReal) - (m : EReal))) + (ε : EReal) * Ideal.exp (((1 / 2 : ℝ) : EReal) - (m : EReal)))
        * x n
      = Ideal.div (∑ n ∈ M, ((Real.exp (g n - 1 / 2) : ℝ) : EReal) * x n)
          ((∑ k ∈ M, ((Real.exp (g k - 1 / 2) : ℝ) : EReal)) + (ε : EReal)) := by
  have hD : 0 < (∑ k ∈ M, Real.exp (g k - 1 / 2)) + ε :=
    add_pos_of_nonneg_of_pos (Finset.sum_nonneg fun _ _ => (Real.exp_pos _).le) hε
  have hsplit : ∀ k, Real.exp (g k - m) = Real.exp (g k - 1 / 2) * Real.exp (1 / 2 - m) := fun k => by
    rw [← Real.exp_add]; congr 1; ring
  have hden : (∑ k ∈ M, Ideal.exp ((g k : EReal) - (m : EReal)))
        + (ε : EReal) * Ideal.exp (((1 / 2 : ℝ) : EReal) - (m : EReal))
      = ((((∑ k ∈ M, Real.exp (g k - 1 / 2)) + ε) * Real.exp (1 / 2 - m) : ℝ) : EReal) := by
    simp only [← EReal.coe_sub, Ideal.exp_coe]
    rw [coe_sum, ← EReal.coe_mul, ← EReal.coe_add, add_mul, Finset.sum_mul]
    simp only [hsplit]
  rw [hden, coe_sum, ← EReal.coe_add]
  generalize (∑ k ∈ M, Real.exp (g k - 1 / 2)) + ε = D at hD
  rw [Ideal.div_coe hD.ne', mul_comm (∑ n ∈ M, _), ← sum_scale _ (by positivity)]
  refine Finset.sum_congr rfl fun n _ => ?_
  rw [← EReal.coe_sub, Ideal.exp_coe, Ideal.div_coe (by positivity), ← EReal.coe_mul, ← mul_assoc, ← EReal.coe_mul, hsplit]
  congr 2
  have := (Real.exp_pos (1 / 2 - m)).ne'
  field_simp

end Cert.Agg
-- ==== Proof.Payload.lean ====
module

public import proofs.«01_k».proof.Proof.Gen.KernelIdeal.Skeleton
public import proofs.«01_k».proof.Proof.Maths
public import Idealize.ShloMosaic.Lib.Pointwise

@[expose] public section

set_option maxRecDepth 16384

noncomputable section

namespace Cert.Agg

open Idealize.ShloMosaic

/-- A row's unnormalised weight, from its score. -/
def wt (z : EReal) : EReal := ((Real.exp (sg z - 1 / 2) : ℝ) : EReal)

/-- The score of one row at one feature. -/
def score (xr : Fin 128 → EReal) (wg : Fin 128 → Fin 128 → EReal) (b : Fin 128 → EReal) (d : Fin 128) : EReal :=
  ∑ l, xr l * wg l d + b d

/-- What one row brings to its segment: its weights in the first 128 columns, its weighted features in the last. -/
def brings (xr : Fin 128 → EReal) (wg : Fin 128 → Fin 128 → EReal) (b : Fin 128 → EReal) (j : Fin 256) : EReal :=
  if h : j.val < 128 then wt (score xr wg b ⟨j.val, h⟩)
  else wt (score xr wg b ⟨j.val - 128, by omega⟩) * xr ⟨j.val - 128, by omega⟩

theorem half_bits : Ideal.ofBits .f32 0x3F000000#32 = ((1 / 2 : ℝ) : EReal) := by
  simp [Ideal.ofBits, Ideal.ieee, -EReal.coe_mul]; norm_num

/-- The guard both programs carry, as the number its word denotes. -/
theorem guard_bits : ∃ ε : ℝ, 0 < ε ∧ Ideal.ofBits .f32 0x24E69595#32 = (ε : EReal) := by
  refine ⟨_, ?_, by simp [Ideal.ofBits, Ideal.ieee, -EReal.coe_mul]; rfl⟩
  norm_num

/-- A membership word turned into a number multiplies as a choice. -/
theorem member_mul (a b : BitVec 32) (y : EReal) :
    (FloatOps.sitofp (F := Ideal) FTy.f32 (BitVec.setWidth 32 (IntOp.cmpi CmpIPredicate.eq a b)) : EReal) * y
      = if b = a then y else 0 := by
  by_cases h : b = a
  · subst h
    rw [if_pos rfl]
    have h1 : IntOp.cmpi CmpIPredicate.eq b b = 1#1 := by simp [IntOp.cmpi]
    rw [h1]
    simp [FloatOps.sitofp]
  · rw [if_neg h]
    have h1 : IntOp.cmpi CmpIPredicate.eq a b = 0#1 := by
      show BitVec.ofBool (a == b) = 0#1
      rw [beq_eq_false_iff_ne.2 (Ne.symm h)]; rfl
    rw [h1]
    simp [FloatOps.sitofp]

section
open Cert.KernelIdeal Cert.KernelIdeal.Gen

theorem named_c1 : Named.named (F := Ideal) (φ := .f32) κ "half_log2e" 0x3F38AA3B#32
    = ((1 / 2 * (Real.log 2)⁻¹ : ℝ) : EReal) := IdealRules.named_const.ideal_named_scalar _ _ _ _ rfl

/-- The kernel's weight at halved operands. -/
theorem weight_at (xr : Fin 128 → EReal) (wg : Fin 128 → Fin 128 → EReal) (b b' : Fin 128 → EReal)
    (hb : ∀ d, b' d = ((1 / 2 : ℝ) : EReal) * b d) (d : Fin 128) :
    (FloatOps.exp2 (F := Ideal) (φ := .f32) (((1 / 2 * (Real.log 2)⁻¹ : ℝ) : EReal)
        * Ideal.tanh (∑ l, xr l * (wg l d * ((1 / 2 : ℝ) : EReal)) + b' d)) : EReal) = wt (score xr wg b d) := by
  rw [hb, half_score _ _ (by norm_num)]
  exact weight_eq _

/-- One grid point's accumulation, read at a segment and a column. -/
theorem pay6_at (x : Vec Ideal S10000x128 .f32) (wg : Vec Ideal S128x128 .f32) (bh : Vec Ideal S1x128 .f32)
    (ix : Vec Ideal S1x1x10000 .i32) (acc : Vec Ideal S256x256 .f32) (b : Fin 128 → EReal)
    (hb : ∀ d : Fin 128, bh (ix2 0 d) = ((1 / 2 : ℝ) : EReal) * b d) (s j : Fin 256) :
    k0_pay6 (F := Ideal) x wg bh x ix acc (ix2 s j)
      = acc (ix2 s j) + ∑ k : Fin 10000, if ix (ix3 0 0 k) = BitVec.ofNat 32 s.val
          then brings (fun l => x (ix2 k l)) (fun l d => wg (ix2 l d)) b j else 0 := by
  pointwise [k0_pay6]
  rw [named_c1, half_bits]
  congr 1
  refine Finset.sum_congr rfl fun k _ => ?_
  rw [member_mul]
  congr 1
  unfold brings
  split
  · exact weight_at (fun l => x (ix2 k l)) (fun l d => wg (ix2 l d)) b (fun d => bh (ix2 0 d)) hb _
  · exact congrArg (· * _) (weight_at (fun l => x (ix2 k l)) (fun l d => wg (ix2 l d)) b (fun d => bh (ix2 0 d)) hb _)

theorem pay7_eq : @k0_pay7 Ideal = @k0_pay6 Ideal := rfl

theorem pay1_eq (x : Vec Ideal S10000x128 .f32) (wg : Vec Ideal S128x128 .f32) (bh : Vec Ideal S1x128 .f32)
    (x' : Vec Ideal S10000x128 .f32) (ix : Vec Ideal S1x1x10000 .i32) (acc : Vec Ideal S256x256 .f32) :
    k0_pay1 (F := Ideal) (k0_pay8 x) wg bh x' ix acc = k0_pay6 x wg bh x' ix acc := rfl

theorem pay3_at (j : S256x256.Idx) : k0_pay3 (F := Ideal) j = 0 := by pointwise [k0_pay3]
theorem pay4_eq : k0_pay4 (F := Ideal) = k0_pay3 := rfl
theorem pay5_eq : k0_pay5 (F := Ideal) = k0_pay3 := rfl

/-- The last point's result, read at a segment and a column. -/
theorem pay2_at (b : Vec Ideal S1x256 .f32) (e0 x0 e1 x1 e2 x2 : Vec Ideal S256x128 .f32)
    (w0 w1 w2 : Vec Ideal S1x128x256 .f32) (s j : Fin 256) :
    k0_pay2 (F := Ideal) b e0 x0 w0 e1 x1 w1 e2 x2 w2 (ix2 s j)
      = b (ix2 0 j)
        + (∑ d : Fin 128, Ideal.div (x0 (ix2 s d)) (e0 (ix2 s d) + Ideal.ofBits .f32 0x24E69595#32) * w0 (ix3 0 d j))
        + (∑ d : Fin 128, Ideal.div (x1 (ix2 s d)) (e1 (ix2 s d) + Ideal.ofBits .f32 0x24E69595#32) * w1 (ix3 0 d j))
        + (∑ d : Fin 128, Ideal.div (x2 (ix2 s d)) (e2 (ix2 s d) + Ideal.ofBits .f32 0x24E69595#32) * w2 (ix3 0 d j)) := by
  pointwise [k0_pay2]

end

end Cert.Agg
-- ==== Proof.Fold.lean ====
module

public import proofs.«01_k».proof.Proof.Gen.KernelIdeal.Value
public import proofs.«01_k».proof.Proof.Payload
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Agg

open Idealize.ShloMosaic Idealize.ShloMosaic.TcCoe Idealize.SL.Sem
open Cert.KernelIdeal Cert.KernelIdeal.Gen Cert.KernelIdeal.Value Cert.Agg

variable (m : (ℓ : Loc nD τ sig) → Buf (Elt Ideal) ℓ)

/-- Row `k` of point `t`'s tile, among all rows. -/
def rowOf (t : Fin cfg0.N) (k : Fin 10000) : Fin 100000 :=
  ⟨t.val * 10000 + k.val, by have := lt_of_lt_of_eq t.isLt (show cfg0.N = 10 from N_0); omega⟩

theorem idx0 : ∀ t : Fin cfg0.N, win0_0.index t = ![t.val, 0] ∧ win0_2.index t = ![t.val, 0] ∧ win0_4.index t = ![t.val, 0] :=
  (by decide +kernel : ∀ t : Fin grid0.N, _)

theorem idx1 : ∀ t : Fin cfg0.N, win0_1.index t = ![t.val, 0, 0] ∧ win0_3.index t = ![10 + t.val, 0, 0]
    ∧ win0_5.index t = ![20 + t.val, 0, 0] :=
  (by decide +kernel : ∀ t : Fin grid0.N, _)

theorem idxW : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0, 0]
    ∧ win0_13.index t = ![0, 0] :=
  (by decide +kernel : ∀ t : Fin grid0.N, _)

theorem blk0 (c : Dev nD) (t : Fin cfg0.N) (k : Fin 10000) (l : Fin 128) :
    (show Vec Ideal S10000x128 .f32 from iblk m c 0 t) (ix2 k l)
      = (show Vec Ideal S100000x128 .f32 from m ((c : Thread nD τ).loc main_arg0)) (ix2 (rowOf t k) l) := by
  have h := idx0 t
  blk_point [iblk, V, idx0 t, rowOf]

theorem blk6 (c : Dev nD) (t : Fin cfg0.N) (k : Fin 128) (l : Fin 128) :
    (show Vec Ideal S128x128 .f32 from iblk m c 6 t) (ix2 k l)
      = (show Vec Ideal S128x128 .f32 from m ((c : Thread nD τ).loc main_arg6)) (ix2 k l) := by
  blk_point [iblk, V, idxW t]

/-- A halved bias as the launch finds it. -/
def halved (B : FVec Ideal S128 .f32) : FVec Ideal S1x128 .f32 :=
  shapeCast S1x128 (mulf (broadcastInDim S128 ![] bcast_S_S128 (constant (F := Ideal) S_ .f32 0x3F000000#32)) B) shapeCasts_S128_S1x128

theorem half_at (B : FVec Ideal S128 .f32) (l : Fin 128) : halved B (ix2 0 l) = ((1 / 2 : ℝ) : EReal) * B (ix1 l) := by
  pointwise [halved]
  rw [half_bits]

theorem entry5 (c : Dev nD) : V m c main_call0_v5 = halved (m ((c : Thread nD τ).loc main_arg7)) := by
  entry_read
  rfl

theorem entry8 (c : Dev nD) : V m c main_call0_v8 = halved (m ((c : Thread nD τ).loc main_arg9)) := by
  entry_read
  rfl

theorem entry11 (c : Dev nD) : V m c main_call0_v11 = halved (m ((c : Thread nD τ).loc main_arg11)) := by
  entry_read
  rfl

theorem blk7 (c : Dev nD) (t : Fin cfg0.N) (l : Fin 128) :
    (show Vec Ideal S1x128 .f32 from iblk m c 7 t) (ix2 0 l)
      = ((1 / 2 : ℝ) : EReal) * (show Vec Ideal S128 .f32 from m ((c : Thread nD τ).loc main_arg7)) (ix1 l) := by
  refine Eq.trans ?_ (half_at _ l)
  refine Eq.trans ?_ (congrFun (entry5 m c) (ix2 0 l))
  blk_point [iblk, idxW t]

/-- The three planes' segment indices, end to end and cut into tiles, read at a tile and a row of it. -/
theorem lists_at (A B C : Vec Ideal S100000 .i32) (u : Fin 30) (k : Fin 10000) :
    shapeCast S30x1x10000 (concatenate S300000 0 [⟨S100000, A⟩, ⟨S100000, B⟩, ⟨S100000, C⟩] concatenates_S100000_S100000_S100000_S300000_d0)
        shapeCasts_S300000_S30x1x10000 (ix3 u 0 k)
      = if h : u.val * 10000 + k.val < 100000 then A (ix1 ⟨u.val * 10000 + k.val, h⟩)
        else if h : u.val * 10000 + k.val - 100000 < 100000 then B (ix1 ⟨u.val * 10000 + k.val - 100000, h⟩)
        else C (ix1 ⟨u.val * 10000 + k.val - 100000 - 100000, by omega⟩) := by
  pointwise

theorem entry1 (c : Dev nD) : (show Vec Ideal S30x1x10000 .i32 from V m c main_call0_v1)
    = shapeCast S30x1x10000 (concatenate S300000 0 [⟨S100000, (show Vec Ideal S100000 .i32 from m ((c : Thread nD τ).loc main_arg3))⟩,
        ⟨S100000, (show Vec Ideal S100000 .i32 from m ((c : Thread nD τ).loc main_arg4))⟩,
        ⟨S100000, (show Vec Ideal S100000 .i32 from m ((c : Thread nD τ).loc main_arg5))⟩] concatenates_S100000_S100000_S100000_S300000_d0)
        shapeCasts_S300000_S30x1x10000 := by
  entry_read
  rfl

theorem blk1 (c : Dev nD) (t : Fin cfg0.N) (k : Fin 10000) :
    (show Vec Ideal S1x1x10000 .i32 from iblk m c 1 t) (ix3 0 0 k)
      = (show Vec Ideal S100000 .i32 from m ((c : Thread nD τ).loc main_arg3)) (ix1 (rowOf t k)) := by
  have ht := lt_of_lt_of_eq t.isLt (show cfg0.N = 10 from N_0)
  have e := lists_at (show Vec Ideal S100000 .i32 from m ((c : Thread nD τ).loc main_arg3))
    (show Vec Ideal S100000 .i32 from m ((c : Thread nD τ).loc main_arg4))
    (show Vec Ideal S100000 .i32 from m ((c : Thread nD τ).loc main_arg5)) ⟨t.val, by omega⟩ k
  rw [dif_pos (by show t.val * 10000 + k.val < 100000; omega)] at e
  refine Eq.trans ?_ ((congrFun (entry1 m c) _).trans e)
  blk_point [iblk, idx1 t]

theorem blk3 (c : Dev nD) (t : Fin cfg0.N) (k : Fin 10000) :
    (show Vec Ideal S1x1x10000 .i32 from iblk m c 3 t) (ix3 0 0 k)
      = (show Vec Ideal S100000 .i32 from m ((c : Thread nD τ).loc main_arg4)) (ix1 (rowOf t k)) := by
  have ht := lt_of_lt_of_eq t.isLt (show cfg0.N = 10 from N_0)
  have e := lists_at (show Vec Ideal S100000 .i32 from m ((c : Thread nD τ).loc main_arg3))
    (show Vec Ideal S100000 .i32 from m ((c : Thread nD τ).loc main_arg4))
    (show Vec Ideal S100000 .i32 from m ((c : Thread nD τ).loc main_arg5)) ⟨10 + t.val, by omega⟩ k
  rw [dif_neg (by show ¬ (10 + t.val) * 10000 + k.val < 100000; omega),
    dif_pos (by show (10 + t.val) * 10000 + k.val - 100000 < 100000; omega)] at e
  refine Eq.trans ?_ (((congrFun (entry1 m c) _).trans e).trans (congrArg _ (congrArg ix1 (Fin.ext ?_))))
  · blk_point [iblk, idx1 t]
  · show (10 + t.val) * 10000 + k.val - 100000 = t.val * 10000 + k.val
    omega

theorem blk12 (c : Dev nD) (t : Fin cfg0.N) (p : Fin 3) (d : Fin 128) (j : Fin 256) :
    (show Vec Ideal S3x128x256 .f32 from iblk m c 12 t) (ix3 p d j)
      = (show Vec Ideal S384x256 .f32 from m ((c : Thread nD τ).loc main_arg12)) (ix2 ⟨p.val * 128 + d.val, by omega⟩ j) := by
  blk_point [iblk, V, idxW t]

theorem blk13 (c : Dev nD) (t : Fin cfg0.N) (j : Fin 256) :
    (show Vec Ideal S1x256 .f32 from iblk m c 13 t) (ix2 0 j)
      = (show Vec Ideal S256 .f32 from m ((c : Thread nD τ).loc main_arg13)) (ix1 j) := by
  blk_point [iblk, V, idxW t]

theorem blk5 (c : Dev nD) (t : Fin cfg0.N) (k : Fin 10000) :
    (show Vec Ideal S1x1x10000 .i32 from iblk m c 5 t) (ix3 0 0 k)
      = (show Vec Ideal S100000 .i32 from m ((c : Thread nD τ).loc main_arg5)) (ix1 (rowOf t k)) := by
  have ht := lt_of_lt_of_eq t.isLt (show cfg0.N = 10 from N_0)
  have e := lists_at (show Vec Ideal S100000 .i32 from m ((c : Thread nD τ).loc main_arg3))
    (show Vec Ideal S100000 .i32 from m ((c : Thread nD τ).loc main_arg4))
    (show Vec Ideal S100000 .i32 from m ((c : Thread nD τ).loc main_arg5)) ⟨20 + t.val, by omega⟩ k
  rw [dif_neg (by show ¬ (20 + t.val) * 10000 + k.val < 100000; omega),
    dif_neg (by show ¬ (20 + t.val) * 10000 + k.val - 100000 < 100000; omega)] at e
  refine Eq.trans ?_ (((congrFun (entry1 m c) _).trans e).trans (congrArg _ (congrArg ix1 (Fin.ext ?_))))
  · blk_point [iblk, idx1 t]
  · show (20 + t.val) * 10000 + k.val - 100000 - 100000 = t.val * 10000 + k.val
    omega

theorem blk2 (c : Dev nD) (t : Fin cfg0.N) (k : Fin 10000) (l : Fin 128) :
    (show Vec Ideal S10000x128 .f32 from iblk m c 2 t) (ix2 k l)
      = (show Vec Ideal S100000x128 .f32 from m ((c : Thread nD τ).loc main_arg1)) (ix2 (rowOf t k) l) := by
  blk_point [iblk, V, idx0 t, rowOf]

theorem blk4 (c : Dev nD) (t : Fin cfg0.N) (k : Fin 10000) (l : Fin 128) :
    (show Vec Ideal S10000x128 .f32 from iblk m c 4 t) (ix2 k l)
      = (show Vec Ideal S100000x128 .f32 from m ((c : Thread nD τ).loc main_arg2)) (ix2 (rowOf t k) l) := by
  blk_point [iblk, V, idx0 t, rowOf]

theorem blk8 (c : Dev nD) (t : Fin cfg0.N) (k : Fin 128) (l : Fin 128) :
    (show Vec Ideal S128x128 .f32 from iblk m c 8 t) (ix2 k l)
      = (show Vec Ideal S128x128 .f32 from m ((c : Thread nD τ).loc main_arg8)) (ix2 k l) := by
  blk_point [iblk, V, idxW t]

theorem blk10 (c : Dev nD) (t : Fin cfg0.N) (k : Fin 128) (l : Fin 128) :
    (show Vec Ideal S128x128 .f32 from iblk m c 10 t) (ix2 k l)
      = (show Vec Ideal S128x128 .f32 from m ((c : Thread nD τ).loc main_arg10)) (ix2 k l) := by
  blk_point [iblk, V, idxW t]

theorem blk9 (c : Dev nD) (t : Fin cfg0.N) (l : Fin 128) :
    (show Vec Ideal S1x128 .f32 from iblk m c 9 t) (ix2 0 l)
      = ((1 / 2 : ℝ) : EReal) * (show Vec Ideal S128 .f32 from m ((c : Thread nD τ).loc main_arg9)) (ix1 l) := by
  refine Eq.trans ?_ (half_at _ l)
  refine Eq.trans ?_ (congrFun (entry8 m c) (ix2 0 l))
  blk_point [iblk, idxW t]

theorem blk11 (c : Dev nD) (t : Fin cfg0.N) (l : Fin 128) :
    (show Vec Ideal S1x128 .f32 from iblk m c 11 t) (ix2 0 l)
      = ((1 / 2 : ℝ) : EReal) * (show Vec Ideal S128 .f32 from m ((c : Thread nD τ).loc main_arg11)) (ix1 l) := by
  refine Eq.trans ?_ (half_at _ l)
  refine Eq.trans ?_ (congrFun (entry11 m c) (ix2 0 l))
  blk_point [iblk, idxW t]

/-- What row `n` of a plane brings to segment `s`'s column `j`: nothing unless the row belongs to the segment. -/
def broughtTo (X : Vec Ideal S100000x128 .f32) (I : Vec Ideal S100000 .i32) (W : Vec Ideal S128x128 .f32) (B : Vec Ideal S128 .f32)
    (s j : Fin 256) (n : Fin 100000) : EReal :=
  if I (ix1 n) = BitVec.ofNat 32 s.val then brings (fun l => X (ix2 n l)) (fun l d => W (ix2 l d)) (fun d => B (ix1 d)) j else 0

/-- Point `n`'s tile of a plane, summed (nothing past the grid). -/
def tileSum (X : Vec Ideal S100000x128 .f32) (I : Vec Ideal S100000 .i32) (W : Vec Ideal S128x128 .f32) (B : Vec Ideal S128 .f32)
    (s j : Fin 256) (n : ℕ) : EReal :=
  if h : n < cfg0.N then ∑ k : Fin 10000, broughtTo X I W B s j (rowOf ⟨n, h⟩ k) else 0

/-- One plane's accumulation at one point, over the blocks that point finds. -/
theorem plane_step (X : Vec Ideal S100000x128 .f32) (I : Vec Ideal S100000 .i32) (W : Vec Ideal S128x128 .f32) (B : Vec Ideal S128 .f32)
    (t : Fin cfg0.N) (x : Vec Ideal S10000x128 .f32) (w : Vec Ideal S128x128 .f32) (b : Vec Ideal S1x128 .f32) (i : Vec Ideal S1x1x10000 .i32)
    (hx : ∀ k l, x (ix2 k l) = X (ix2 (rowOf t k) l)) (hi : ∀ k, i (ix3 0 0 k) = I (ix1 (rowOf t k)))
    (hw : ∀ k l, w (ix2 k l) = W (ix2 k l)) (hb : ∀ l, b (ix2 0 l) = ((1 / 2 : ℝ) : EReal) * B (ix1 l))
    (acc : Vec Ideal S256x256 .f32) (s j : Fin 256) :
    k0_pay6 (F := Ideal) x w b x i acc (ix2 s j) = acc (ix2 s j) + tileSum X I W B s j t.val := by
  rw [pay6_at x w b i acc (fun d => B (ix1 d)) hb s j]
  refine congrArg₂ (· + ·) rfl ?_
  unfold tileSum
  rw [dif_pos t.isLt]
  refine Finset.sum_congr rfl fun k _ => ?_
  unfold broughtTo
  simp only [hx, hi, hw]

/-- All ten tiles are all the rows. -/
theorem tiles_all (X : Vec Ideal S100000x128 .f32) (I : Vec Ideal S100000 .i32) (W : Vec Ideal S128x128 .f32) (B : Vec Ideal S128 .f32)
    (s j : Fin 256) : ∑ n ∈ Finset.range 10, tileSum X I W B s j n = ∑ n : Fin 100000, broughtTo X I W B s j n := by
  rw [Finset.sum_range, Fin.sum_univ_tiles 10 10000 rfl]
  refine Finset.sum_congr rfl fun t _ => ?_
  unfold tileSum
  rw [dif_pos (lt_of_lt_of_eq t.isLt (show 10 = cfg0.N from N_0.symm))]
  rfl

end Cert.KernelIdeal.Agg
-- ==== Proof.Steps.lean ====
module

public import proofs.«01_k».proof.Proof.Fold
public import Idealize.ShloMosaic.Lib.Pipeline.ReadBack

@[expose] public section

set_option maxRecDepth 16384

noncomputable section

namespace Cert.KernelIdeal.Agg

open Idealize.ShloMosaic Idealize.ShloMosaic.TcCoe Idealize.SL.Sem
open Cert.KernelIdeal Cert.KernelIdeal.Gen Cert.KernelIdeal.Value Cert.Agg

variable (m : (ℓ : Loc nD τ sig) → Buf (Elt Ideal) ℓ)

/-- The first plane's tile sums, over the launch's own arguments. -/
def tileU (c : Dev nD) (s j : Fin 256) (n : ℕ) : EReal :=
  tileSum (m ((c : Thread nD τ).loc main_arg0)) (m ((c : Thread nD τ).loc main_arg3))
    (m ((c : Thread nD τ).loc main_arg6)) (m ((c : Thread nD τ).loc main_arg7)) s j n

/-- The second plane's. -/
def tileV (c : Dev nD) (s j : Fin 256) (n : ℕ) : EReal :=
  tileSum (m ((c : Thread nD τ).loc main_arg1)) (m ((c : Thread nD τ).loc main_arg4))
    (m ((c : Thread nD τ).loc main_arg8)) (m ((c : Thread nD τ).loc main_arg9)) s j n

/-- The third plane's. -/
def tileY (c : Dev nD) (s j : Fin 256) (n : ℕ) : EReal :=
  tileSum (m ((c : Thread nD τ).loc main_arg2)) (m ((c : Thread nD τ).loc main_arg5))
    (m ((c : Thread nD τ).loc main_arg10)) (m ((c : Thread nD τ).loc main_arg11)) s j n

theorem stepU (c : Dev nD) (t : Fin cfg0.N) (acc : Vec Ideal S256x256 .f32) (s j : Fin 256) :
    k0_pay6 (F := Ideal) (iblk m c 0 t) (iblk m c 6 t) (iblk m c 7 t) (iblk m c 0 t) (iblk m c 1 t) acc (ix2 s j)
      = acc (ix2 s j) + tileU m c s j t.val :=
  plane_step _ _ _ _ t (iblk m c 0 t) (iblk m c 6 t) (iblk m c 7 t) (iblk m c 1 t)
    (blk0 m c t) (blk1 m c t) (blk6 m c t) (blk7 m c t) acc s j

theorem stepV (c : Dev nD) (t : Fin cfg0.N) (acc : Vec Ideal S256x256 .f32) (s j : Fin 256) :
    k0_pay7 (F := Ideal) (iblk m c 2 t) (iblk m c 8 t) (iblk m c 9 t) (iblk m c 2 t) (iblk m c 3 t) acc (ix2 s j)
      = acc (ix2 s j) + tileV m c s j t.val := by
  rw [pay7_eq]
  exact plane_step _ _ _ _ t (iblk m c 2 t) (iblk m c 8 t) (iblk m c 9 t) (iblk m c 3 t)
    (blk2 m c t) (blk3 m c t) (blk8 m c t) (blk9 m c t) acc s j

theorem stepY (c : Dev nD) (t : Fin cfg0.N) (acc : Vec Ideal S256x256 .f32) (s j : Fin 256) :
    k0_pay1 (F := Ideal) (k0_pay8 (iblk m c 4 t)) (iblk m c 10 t) (iblk m c 11 t) (iblk m c 4 t) (iblk m c 5 t) acc (ix2 s j)
      = acc (ix2 s j) + tileY m c s j t.val := by
  rw [pay1_eq]
  exact plane_step _ _ _ _ t (iblk m c 4 t) (iblk m c 10 t) (iblk m c 11 t) (iblk m c 5 t)
    (blk4 m c t) (blk5 m c t) (blk10 m c t) (blk11 m c t) acc s j

/-- What the output window and the three carried buffers hold between points. -/
abbrev St := Vec Ideal S256x256 .f32 × Vec Ideal S256x256 .f32 × Vec Ideal S256x256 .f32 × Vec Ideal S256x256 .f32

/-- The first point leaves its own tile in each carried buffer. -/
theorem first_point (c : Dev nD) (t : Fin cfg0.N) (acc : St) (h0 : t.val % 10 = 0) (h1 : ¬ t.val % 10 = 9) (s j : Fin 256) :
    (stAt0 m c t.val t.isLt acc).2.1 (ix2 s j) = 0 + tileU m c s j t.val
      ∧ (stAt0 m c t.val t.isLt acc).2.2.1 (ix2 s j) = 0 + tileV m c s j t.val
      ∧ (stAt0 m c t.val t.isLt acc).2.2.2 (ix2 s j) = 0 + tileY m c s j t.val := by
  rw [stAt0_A m c t acc h0 h1]
  refine ⟨?_, ?_, ?_⟩
  · frame_out
    have h := stepU m c t (k0_pay3 (F := Ideal)) s j
    rw [pay3_at] at h
    exact h
  · frame_out
    have h := stepV m c t (k0_pay4 (F := Ideal)) s j
    rw [pay4_eq, pay3_at] at h
    exact h
  · frame_out
    have h := stepY m c t (k0_pay5 (F := Ideal)) s j
    rw [pay5_eq, pay3_at] at h
    exact h

/-- A middle point adds its tile to each carried buffer. -/
theorem middle_point (c : Dev nD) (t : Fin cfg0.N) (acc : St) (h0 : ¬ t.val % 10 = 0) (h1 : ¬ t.val % 10 = 9) (s j : Fin 256) :
    (stAt0 m c t.val t.isLt acc).2.1 (ix2 s j) = acc.2.1 (ix2 s j) + tileU m c s j t.val
      ∧ (stAt0 m c t.val t.isLt acc).2.2.1 (ix2 s j) = acc.2.2.1 (ix2 s j) + tileV m c s j t.val
      ∧ (stAt0 m c t.val t.isLt acc).2.2.2 (ix2 s j) = acc.2.2.2 (ix2 s j) + tileY m c s j t.val := by
  rw [stAt0_B m c t acc h0 h1]
  refine ⟨?_, ?_, ?_⟩
  · frame_out
    simp only [read_unread_whole]
    exact stepU m c t acc.2.1 s j
  · frame_out
    simp only [read_unread_whole]
    exact stepV m c t acc.2.2.1 s j
  · frame_out
    simp only [read_unread_whole]
    exact stepY m c t acc.2.2.2 s j

/-- After point `n`, before the last, each carried buffer holds the sum of the tiles so far. -/
theorem carried (c : Dev nD) (s j : Fin 256) : ∀ (n : ℕ) (h : 0 + n < cfg0.N) (_ : n < 9),
    (Pipeline.accAt (fun n h => stAt0 m c n h junk0) (stAt0 m c) 0 n h).2.1 (ix2 s j) = ∑ k ∈ Finset.range (n + 1), tileU m c s j k
      ∧ (Pipeline.accAt (fun n h => stAt0 m c n h junk0) (stAt0 m c) 0 n h).2.2.1 (ix2 s j) = ∑ k ∈ Finset.range (n + 1), tileV m c s j k
      ∧ (Pipeline.accAt (fun n h => stAt0 m c n h junk0) (stAt0 m c) 0 n h).2.2.2 (ix2 s j) = ∑ k ∈ Finset.range (n + 1), tileY m c s j k
  | 0, h, _ => by
    obtain ⟨a, b, d⟩ := first_point m c ⟨0, h⟩ junk0 (Nat.zero_mod _) (by show ¬ 0 % 10 = 9; omega) s j
    rw [Pipeline.accAt_zero]
    refine ⟨a.trans ?_, b.trans ?_, d.trans ?_⟩ <;> exact (zero_add _).trans (Finset.sum_range_one _).symm
  | n + 1, h, hn => by
    obtain ⟨a, b, d⟩ := carried c s j n (Nat.lt_of_succ_lt h) (by omega)
    obtain ⟨a', b', d'⟩ := middle_point m c ⟨0 + (n + 1), h⟩
      (Pipeline.accAt (fun n h => stAt0 m c n h junk0) (stAt0 m c) 0 n (Nat.lt_of_succ_lt h))
      (by show ¬ (0 + (n + 1)) % 10 = 0; omega) (by show ¬ (0 + (n + 1)) % 10 = 9; omega) s j
    rw [Pipeline.accAt_succ]
    simp only [Finset.sum_range_succ _ (n + 1)]
    rw [← a, ← b, ← d]
    simp only [Nat.zero_add] at a' b' d'
    refine ⟨?_, ?_, ?_⟩
    · simpa only [Nat.zero_add] using a'
    · simpa only [Nat.zero_add] using b'
    · simpa only [Nat.zero_add] using d'

/-- One plane's contribution to an output entry, out of its full sums `T`. -/
def finish (T : Fin 256 → EReal) (w : Fin 128 → EReal) : EReal :=
  ∑ d : Fin 128, Ideal.div (T ⟨128 + d.val, by omega⟩) (T ⟨d.val, by omega⟩ + Ideal.ofBits .f32 0x24E69595#32) * w d

/-- The left and right halves of a carried buffer, as the last point loads them. -/
theorem left_half (Z : Vec Ideal S256x256 .f32) (inb : ∀ a, (![0, 0] : Fin 2 → ℕ) a + (![256, 128] : Fin 2 → ℕ) a ≤ S256x256.size a)
    (s : Fin 256) (d : Fin 128) :
    View.ld (Val := Elt Ideal) (e' := .f32) Z (Rect.unit ![0, 0] ![256, 128] inb) (ix2 s d) = Z (ix2 s ⟨d.val, by omega⟩) := by
  pointwise

theorem right_half (Z : Vec Ideal S256x256 .f32) (inb : ∀ a, (![0, 128] : Fin 2 → ℕ) a + (![256, 128] : Fin 2 → ℕ) a ≤ S256x256.size a)
    (s : Fin 256) (d : Fin 128) :
    View.ld (Val := Elt Ideal) (e' := .f32) Z (Rect.unit ![0, 128] ![256, 128] inb) (ix2 s d) = Z (ix2 s ⟨128 + d.val, by omega⟩) := by
  pointwise

/-- The last point's load of one plane's slab of the weights. -/
theorem slab (c : Dev nD) (t : Fin cfg0.N) (p : Fin 3) (inb : ∀ a, (![p.val, 0, 0] : Fin 3 → ℕ) a + (![1, 128, 256] : Fin 3 → ℕ) a ≤ S3x128x256.size a)
    (d : Fin 128) (j : Fin 256) :
    (show EReal from View.ld (iblk m c 12 t) (Rect.unit ![p.val, 0, 0] ![1, 128, 256] inb) (ix3 0 d j))
      = (show Vec Ideal S384x256 .f32 from m ((c : Thread nD τ).loc main_arg12)) (ix2 ⟨p.val * 128 + d.val, by omega⟩ j) := by
  refine Eq.trans ?_ (blk12 m c t p d j)
  generalize iblk m c 12 t = w
  pointwise

theorem last_point (c : Dev nD) (t : Fin cfg0.N) (acc : St) (h0 : ¬ t.val % 10 = 0) (h1 : t.val % 10 = 9) (s j : Fin 256) :
    (stAt0 m c t.val t.isLt acc).1 (ix2 s j)
      = (show Vec Ideal S256 .f32 from m ((c : Thread nD τ).loc main_arg13)) (ix1 j)
        + finish (fun r => acc.2.1 (ix2 s r) + tileU m c s r t.val)
            (fun d => (show Vec Ideal S384x256 .f32 from m ((c : Thread nD τ).loc main_arg12)) (ix2 ⟨0 * 128 + d.val, by omega⟩ j))
        + finish (fun r => acc.2.2.1 (ix2 s r) + tileV m c s r t.val)
            (fun d => (show Vec Ideal S384x256 .f32 from m ((c : Thread nD τ).loc main_arg12)) (ix2 ⟨1 * 128 + d.val, by omega⟩ j))
        + finish (fun r => acc.2.2.2 (ix2 s r) + tileY m c s r t.val)
            (fun d => (show Vec Ideal S384x256 .f32 from m ((c : Thread nD τ).loc main_arg12)) (ix2 ⟨2 * 128 + d.val, by omega⟩ j)) := by
  rw [stAt0_C m c t acc h0 h1]
  frame_out
  simp only [read_unread_whole]
  rw [pay2_at]
  refine congrArg₂ (fun a b : EReal => a + b) (congrArg₂ (fun a b : EReal => a + b) (congrArg₂ (fun a b : EReal => a + b) (blk13 m c t j) ?_) ?_) ?_
  · refine Finset.sum_congr rfl fun d _ => ?_
    rw [View.readCov_fill _ _ _ _ _ (by decide), View.readCov_fill _ _ _ _ _ (by decide), left_half, right_half, stepU, stepU]
    exact congrArg (fun a : EReal => _ * a) (slab m c t 0 _ d j)
  · refine Finset.sum_congr rfl fun d _ => ?_
    rw [View.readCov_fill _ _ _ _ _ (by decide), View.readCov_fill _ _ _ _ _ (by decide), left_half, right_half, stepV, stepV]
    exact congrArg (fun a : EReal => _ * a) (slab m c t 1 _ d j)
  · refine Finset.sum_congr rfl fun d _ => ?_
    rw [View.readCov_fill _ _ _ _ _ (by decide), View.readCov_fill _ _ _ _ _ (by decide), left_half, right_half, stepY, stepY]
    exact congrArg (fun a : EReal => _ * a) (slab m c t 2 _ d j)

/-- Everything a plane's rows bring to segment `s`'s column. -/
def total (X : Vec Ideal S100000x128 .f32) (I : Vec Ideal S100000 .i32) (W : Vec Ideal S128x128 .f32) (B : Vec Ideal S128 .f32)
    (s j : Fin 256) : EReal := ∑ n : Fin 100000, broughtTo X I W B s j n

/-- A fold's tenth value is one step over its ninth. -/
theorem fold_ten {α : Type*} {N : ℕ} (a : (n : ℕ) → n < N → α) (g : (n : ℕ) → n < N → α → α) (h : 9 < N) (h' : 0 + 9 < N) :
    Pipeline.accAt a g 0 9 h' = g 9 h (Pipeline.accAt a g 0 8 (by omega)) := rfl

/-- What the last point starts from. -/
def before (c : Dev nD) (h : 0 + 8 < cfg0.N) : St := Pipeline.accAt (fun n h => stAt0 m c n h junk0) (stAt0 m c) 0 8 h

theorem before_last (c : Dev nD) (h9 : 9 < cfg0.N) (h8 : 0 + 8 < cfg0.N) : G14 m c = (stAt0 m c 9 h9 (before m c h8)).1 := by
  rw [G14_last m c, fold_ten _ _ h9]
  rfl

theorem before_holds (c : Dev nD) (h8 : 0 + 8 < cfg0.N) (s j : Fin 256) :
    (before m c h8).2.1 (ix2 s j) = ∑ k ∈ Finset.range 9, tileU m c s j k
      ∧ (before m c h8).2.2.1 (ix2 s j) = ∑ k ∈ Finset.range 9, tileV m c s j k
      ∧ (before m c h8).2.2.2 (ix2 s j) = ∑ k ∈ Finset.range 9, tileY m c s j k :=
  carried m c s j 8 h8 (by omega)

/-- The kernel's result, entry by entry, over its own arguments. -/
theorem result_at (c : Dev nD) (s j : Fin 256) :
    (show EReal from G14 m c (ix2 s j))
      = (show Vec Ideal S256 .f32 from m ((c : Thread nD τ).loc main_arg13)) (ix1 j)
        + finish (total (m ((c : Thread nD τ).loc main_arg0)) (m ((c : Thread nD τ).loc main_arg3))
            (m ((c : Thread nD τ).loc main_arg6)) (m ((c : Thread nD τ).loc main_arg7)) s)
            (fun d => (show Vec Ideal S384x256 .f32 from m ((c : Thread nD τ).loc main_arg12)) (ix2 ⟨0 * 128 + d.val, by omega⟩ j))
        + finish (total (m ((c : Thread nD τ).loc main_arg1)) (m ((c : Thread nD τ).loc main_arg4))
            (m ((c : Thread nD τ).loc main_arg8)) (m ((c : Thread nD τ).loc main_arg9)) s)
            (fun d => (show Vec Ideal S384x256 .f32 from m ((c : Thread nD τ).loc main_arg12)) (ix2 ⟨1 * 128 + d.val, by omega⟩ j))
        + finish (total (m ((c : Thread nD τ).loc main_arg2)) (m ((c : Thread nD τ).loc main_arg5))
            (m ((c : Thread nD τ).loc main_arg10)) (m ((c : Thread nD τ).loc main_arg11)) s)
            (fun d => (show Vec Ideal S384x256 .f32 from m ((c : Thread nD τ).loc main_arg12)) (ix2 ⟨2 * 128 + d.val, by omega⟩ j)) := by
  have h9 : 9 < cfg0.N := lt_of_lt_of_eq (by decide) N_0.symm
  have h8 : 0 + 8 < cfg0.N := lt_of_lt_of_eq (by decide) N_0.symm
  have hc := fun s j => before_holds m c h8 s j
  have e := before_last m c h9 h8
  generalize before m c h8 = acc at hc e
  have hu : (fun r => acc.2.1 (ix2 s r) + tileU m c s r 9) = total (m ((c : Thread nD τ).loc main_arg0)) (m ((c : Thread nD τ).loc main_arg3))
            (m ((c : Thread nD τ).loc main_arg6)) (m ((c : Thread nD τ).loc main_arg7)) s := funext fun r => by
    rw [(hc s r).1]
    exact (Finset.sum_range_succ (tileU m c s r) 9).symm.trans (tiles_all _ _ _ _ s r)
  have hv : (fun r => acc.2.2.1 (ix2 s r) + tileV m c s r 9) = total (m ((c : Thread nD τ).loc main_arg1)) (m ((c : Thread nD τ).loc main_arg4))
            (m ((c : Thread nD τ).loc main_arg8)) (m ((c : Thread nD τ).loc main_arg9)) s := funext fun r => by
    rw [(hc s r).2.1]
    exact (Finset.sum_range_succ (tileV m c s r) 9).symm.trans (tiles_all _ _ _ _ s r)
  have hy : (fun r => acc.2.2.2 (ix2 s r) + tileY m c s r 9) = total (m ((c : Thread nD τ).loc main_arg2)) (m ((c : Thread nD τ).loc main_arg5))
            (m ((c : Thread nD τ).loc main_arg10)) (m ((c : Thread nD τ).loc main_arg11)) s := funext fun r => by
    rw [(hc s r).2.2]
    exact (Finset.sum_range_succ (tileY m c s r) 9).symm.trans (tiles_all _ _ _ _ s r)
  rw [← hu, ← hv, ← hy, e]
  exact last_point m c ⟨9, h9⟩ acc (by show ¬ 9 % 10 = 0; omega) (by show 9 % 10 = 9; omega) s j

end Cert.KernelIdeal.Agg
-- ==== Proof.RefDims.lean ====
module

public import proofs.«01_k».proof.Proof.Gen.ReferenceIdeal.Read
public import proofs.«01_k».proof.Proof.Payload
public import Idealize.ShloMosaic.Lib.Pointwise
public import Idealize.ShloMosaic.Lib.Claim

@[expose] public section

set_option maxRecDepth 16384

noncomputable section

namespace Cert.ReferenceIdeal.Agg

open Idealize.ShloMosaic Idealize.ShloMosaic.TcCoe Idealize.SL.Sem
open Cert.ReferenceIdeal Cert.ReferenceIdeal.Gen Cert.ReferenceIdeal.Read Cert.Agg

/-! Segment numbers as words. -/

theorem word_int : ∀ s : Fin 256, (BitVec.ofNat 32 s.val).toInt = (s.val : ℤ) := by decide +kernel

theorem word_nonneg : ∀ s : Fin 256, BitVec.slt (BitVec.ofNat 32 s.val) 0#32 = false := by decide +kernel

/-- A word read as a signed number is `s` exactly when it is the word of `s`. -/
theorem word_is (b : BitVec 32) (s : Fin 256) : b.toInt = (s.val : ℤ) ↔ b = BitVec.ofNat 32 s.val :=
  ⟨fun h => BitVec.eq_of_toInt_eq (h.trans (word_int s).symm), fun h => h ▸ word_int s⟩

/-- Reading rows by number: a row whose number is that of segment `s` reads the table's row `s`. -/
theorem gather_row (T : FVec Ideal S256x128 .f32) (idx : IVec S100000x1 32) (n : Fin 100000) (d : Fin 128) (s : Fin 256)
    (h : idx (ix2 n 0) = BitVec.ofNat 32 s.val) :
    Host.gather gather_S256x128_S100000x1_S100000x128_1_0_n_n_0_1_1128 T idx (ix2 n d) = T (ix2 s d) := by
  unfold Host.gather
  congr 1
  funext a
  refine Fin.ext ?_
  match a with
  | ⟨0, _⟩ =>
    show GatherDims.start _ (ix2 n d) idx 0 + GatherDims.batchCoord _ (ix2 n d) 0 + GatherDims.offCoord _ (ix2 n d) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x128_S100000x1_S100000x128_1_0_n_n_0_1_1128.startIndexMap from List.mem_singleton.mpr rfl)]
    have hsi : gather_S256x128_S100000x1_S100000x128_1_0_n_n_0_1_1128.siIdx (ix2 n d)
        ⟨List.idxOf (0 : Fin 2) gather_S256x128_S100000x1_S100000x128_1_0_n_n_0_1_1128.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi, h, word_int]
    show min (s.val : ℤ).toNat (256 - 1) = s.val
    rw [Int.toNat_natCast]
    have := s.isLt
    omega
  | ⟨1, _⟩ =>
    show GatherDims.start _ (ix2 n d) idx 1 + GatherDims.batchCoord _ (ix2 n d) 1 + GatherDims.offCoord _ (ix2 n d) 1 = d.val
    rw [GatherDims.batchCoord_eq_zero _ _ _ List.not_mem_nil]
    unfold GatherDims.start
    rw [dif_neg (by decide)]
    simp only [Nat.zero_add]
    rfl

/-- Where an update lands. -/
theorem lands (idx : IVec S100000x1 32) (n : Fin 100000) (d' d : Fin 128) (s : Fin 256) :
    scatter_S256x128_S100000x1_S100000x128_1_0_0_1.resultIdx? (ix2 n d') idx = some (ix2 s d)
      ↔ idx (ix2 n 0) = BitVec.ofNat 32 s.val ∧ d' = d := by
  have e0 : scatter_S256x128_S100000x1_S100000x128_1_0_0_1.start (ix2 n d') idx 0 = (idx (ix2 n 0)).toInt := by
    unfold ScatterDims.start
    rw [dif_pos (show (0 : Fin 2) ∈ scatter_S256x128_S100000x1_S100000x128_1_0_0_1.scatterDimsToOperandDims from List.mem_singleton.mpr rfl)]
    congr 2
    funext b; refine Fin.ext ?_
    match b with
    | ⟨0, _⟩ => rfl
    | ⟨1, _⟩ => rfl
  have e1 : scatter_S256x128_S100000x1_S100000x128_1_0_0_1.start (ix2 n d') idx 1 = 0 := by
    unfold ScatterDims.start
    rw [dif_neg (by decide)]
  have w0 : scatter_S256x128_S100000x1_S100000x128_1_0_0_1.window (ix2 n d') 0 = 0 := by
    unfold ScatterDims.window
    rw [dif_neg (by decide)]
  have w1 : scatter_S256x128_S100000x1_S100000x128_1_0_0_1.window (ix2 n d') 1 = d'.val := rfl
  unfold ScatterDims.resultIdx?
  constructor
  · intro h
    split at h
    · rename_i hin
      have h' := Option.some.inj h
      have a0 := congrArg Fin.val (congrFun h' 0)
      have a1 := congrArg Fin.val (congrFun h' 1)
      have i0 := hin 0
      simp only [e0, e1, w0, w1] at a0 a1 i0
      refine ⟨(word_is _ s).1 ?_, Fin.ext ?_⟩
      · have : ((idx (ix2 n 0)).toInt + ((0 : ℕ) : ℤ)).toNat = s.val := a0
        omega
      · have : ((0 : ℤ) + (d'.val : ℤ)).toNat = d.val := a1
        omega
    · exact absurd h (by simp)
  · rintro ⟨h, rfl⟩
    have hi := (word_is _ s).2 h
    rw [dif_pos ?_]
    · congr 1
      funext a
      refine Fin.ext ?_
      match a with
      | ⟨0, _⟩ =>
        show (ScatterDims.start scatter_S256x128_S100000x1_S100000x128_1_0_0_1 (ix2 n d') idx 0 + ((ScatterDims.window scatter_S256x128_S100000x1_S100000x128_1_0_0_1 (ix2 n d') 0 : ℕ) : ℤ)).toNat = s.val
        rw [e0, w0, hi]; omega
      | ⟨1, _⟩ =>
        show (ScatterDims.start scatter_S256x128_S100000x1_S100000x128_1_0_0_1 (ix2 n d') idx 1 + ((ScatterDims.window scatter_S256x128_S100000x1_S100000x128_1_0_0_1 (ix2 n d') 1 : ℕ) : ℤ)).toNat = d'.val
        rw [e1, w1]; omega
    · intro a
      match a with
      | ⟨0, _⟩ =>
        show 0 ≤ ScatterDims.start scatter_S256x128_S100000x1_S100000x128_1_0_0_1 (ix2 n d') idx 0 + ((ScatterDims.window scatter_S256x128_S100000x1_S100000x128_1_0_0_1 (ix2 n d') 0 : ℕ) : ℤ)
          ∧ ScatterDims.start scatter_S256x128_S100000x1_S100000x128_1_0_0_1 (ix2 n d') idx 0 + ((ScatterDims.window scatter_S256x128_S100000x1_S100000x128_1_0_0_1 (ix2 n d') 0 : ℕ) : ℤ) < ((256 : ℕ) : ℤ)
        rw [e0, w0, hi]; have := s.isLt; omega
      | ⟨1, _⟩ =>
        show 0 ≤ ScatterDims.start scatter_S256x128_S100000x1_S100000x128_1_0_0_1 (ix2 n d') idx 1 + ((ScatterDims.window scatter_S256x128_S100000x1_S100000x128_1_0_0_1 (ix2 n d') 1 : ℕ) : ℤ)
          ∧ ScatterDims.start scatter_S256x128_S100000x1_S100000x128_1_0_0_1 (ix2 n d') idx 1 + ((ScatterDims.window scatter_S256x128_S100000x1_S100000x128_1_0_0_1 (ix2 n d') 1 : ℕ) : ℤ) < ((128 : ℕ) : ℤ)
        rw [e1, w1]; have := d'.isLt; omega

/-- The rows of segment `s`. -/
def members (I : IVec S100000 32) (s : Fin 256) : Finset (Fin 100000) :=
  Finset.univ.filter fun n => I (ix1 n) = BitVec.ofNat 32 s.val

/-- A segment sum, at a segment and a column. -/
theorem segment_sum (Z : FVec Ideal S256x128 .f32) (I : IVec S100000 32) (idx : IVec S100000x1 32) (U : FVec Ideal S100000x128 .f32)
    (hI : ∀ n, idx (ix2 n 0) = I (ix1 n)) (s : Fin 256) (d : Fin 128) (hZ : Z (ix2 s d) = 0) :
    Host.scatterAdd scatter_S256x128_S100000x1_S100000x128_1_0_0_1 Z idx U (ix2 s d) = ∑ n ∈ members I s, (show EReal from U (ix2 n d)) := by
  show Ideal.hostScatterAdd scatter_S256x128_S100000x1_S100000x128_1_0_0_1 Z idx U (ix2 s d) = _
  unfold Ideal.hostScatterAdd
  rw [hZ]
  refine (zero_add _).trans ?_
  refine Finset.sum_bij' (fun j _ => j 0) (fun n _ => ix2 n d) ?_ ?_ ?_ ?_ ?_
  · intro j hj
    obtain ⟨n, d', rfl⟩ : ∃ (n : Fin 100000) (d' : Fin 128), j = ix2 n d' := ⟨j 0, j 1, (ix2_eta j).symm⟩
    have := (lands idx n d' d s).1 (Finset.mem_filter.1 hj).2
    exact Finset.mem_filter.2 ⟨Finset.mem_univ _, (hI n).symm.trans this.1⟩
  · intro n hn
    exact Finset.mem_filter.2 ⟨Finset.mem_univ _, (lands idx n d d s).2 ⟨(hI n).trans (Finset.mem_filter.1 hn).2, rfl⟩⟩
  · intro j hj
    obtain ⟨n, d', rfl⟩ : ∃ (n : Fin 100000) (d' : Fin 128), j = ix2 n d' := ⟨j 0, j 1, (ix2_eta j).symm⟩
    have := (lands idx n d' d s).1 (Finset.mem_filter.1 hj).2
    rw [this.2]
    rfl
  · intro n hn
    rfl
  · intro j hj
    obtain ⟨n, d', rfl⟩ : ∃ (n : Fin 100000) (d' : Fin 128), j = ix2 n d' := ⟨j 0, j 1, (ix2_eta j).symm⟩
    have := (lands idx n d' d s).1 (Finset.mem_filter.1 hj).2
    rw [this.2]
    rfl

/-- The largest of some real numbers, where other places hold minus infinity, is real as soon as one place is real. -/
theorem peak_real {ι : Type*} [Fintype ι] (p : ι → Prop) [DecidablePred p] (g : ι → ℝ) (n : ι) (hn : p n) :
    ∃ r : ℝ, Finset.univ.fold max (⊥ : EReal) (fun k => if p k then (g k : EReal) else ⊥) = (r : EReal) := by
  refine ⟨(Finset.univ.fold max (⊥ : EReal) (fun k => if p k then (g k : EReal) else ⊥)).toReal, (EReal.coe_toReal ?_ ?_).symm⟩
  · refine ((Finset.fold_max_lt _).2 ⟨bot_lt_top, fun k _ => ?_⟩).ne
    split
    · exact EReal.coe_lt_top _
    · exact bot_lt_top
  · refine ((Finset.lt_fold_max _).2 (Or.inr ⟨n, Finset.mem_univ _, ?_⟩)).ne'
    rw [if_pos hn]
    exact EReal.bot_lt_coe _

end Cert.ReferenceIdeal.Agg
-- ==== Proof.Ref.lean ====
module

public import proofs.«01_k».proof.Proof.Gen.ReferenceIdeal.Read
public import proofs.«01_k».proof.Proof.RefDims
public import Idealize.ShloMosaic.Lib.Pointwise
public import Idealize.ShloMosaic.Lib.Claim

@[expose] public section

set_option maxRecDepth 16384

noncomputable section

namespace Cert.ReferenceIdeal.Agg

open Idealize.ShloMosaic Idealize.ShloMosaic.TcCoe Idealize.SL.Sem
open Cert.ReferenceIdeal Cert.ReferenceIdeal.Gen Cert.ReferenceIdeal.Read Cert.Agg

section Plane

variable (X : FVec Ideal S100000x128 .f32) (I : IVec S100000 32) (W : FVec Ideal S128x128 .f32) (B : FVec Ideal S128 .f32)

/-- Row `n`'s gate at column `d`. -/
def gate (n : Fin 100000) (d : Fin 128) : ℝ :=
  sg (score (fun l => X (ix2 n l)) (fun l d => W (ix2 l d)) (fun d => B (ix1 d)) d)

theorem gate_at (n : Fin 100000) (d : Fin 128) : val_main_v9 (F := Ideal) X W B (ix2 n d) = (gate X W B n d : EReal) := by
  refine Eq.trans ?_ (gate_eq _)
  pointwise [val_main_v9, val_main_v8, val_main_v7, val_main_v6, val_main_v5, val_main_v4, val_main_v3, val_main_v2, val_main_v1, val_main_v0, val_main_cst, val_main_cst_0]
  rfl

theorem minus_inf : Ideal.ofBits .f32 0xFF800000#32 = (⊥ : EReal) := by simp [Ideal.ofBits, Ideal.ieee]

theorem pick_eq {α : Type} (a b : BitVec 32) (x y : α) :
    Scalar.select (IntOp.cmpi CmpIPredicate.eq a b) x y = if a = b then x else y := by
  by_cases h : a = b
  · subst h
    rw [if_pos rfl]
    have h1 : IntOp.cmpi CmpIPredicate.eq a a = 1#1 := by simp [IntOp.cmpi]
    rw [h1]
    rfl
  · rw [if_neg h]
    have h1 : IntOp.cmpi CmpIPredicate.eq a b = 0#1 := by
      show BitVec.ofBool (a == b) = 0#1
      rw [beq_eq_false_iff_ne.2 h]; rfl
    rw [h1]
    rfl

theorem masked_at (n : Fin 100000) (s : Fin 256) (d : Fin 128) :
    val_main_v17 (F := Ideal) X I W B (ix3 n s d) = if I (ix1 n) = BitVec.ofNat 32 s.val then (gate X W B n d : EReal) else ⊥ := by
  rw [← gate_at, ← minus_inf, ← pick_eq]
  unfold val_main_v17 val_main_call0_v2 val_main_v16
  generalize val_main_v9 (F := Ideal) X W B = G
  pointwise [val_main_call0_v1, val_main_call0_v3, val_main_call0_v0, val_main_v15, val_main_v14, val_main_v13, val_main_v12, val_main_v11, val_main_v10, val_main_cst_1]
  rfl

theorem max_at (s : Fin 256) (d : Fin 128) : val_main_v18 (F := Ideal) X I W B (ix2 s d)
    = Finset.univ.fold max (⊥ : EReal) (fun n => if I (ix1 n) = BitVec.ofNat 32 s.val then (gate X W B n d : EReal) else ⊥) := by
  have h : (fun n => val_main_v17 (F := Ideal) X I W B (ix3 n s d)) = _ := funext fun n => masked_at X I W B n s d
  rw [← h, ← minus_inf]
  unfold val_main_v18
  generalize val_main_v17 (F := Ideal) X I W B = G
  pointwise [val_main_cst_2]

theorem guard_any (M : FVec Ideal S256x128 .f32) (s : Fin 256) (d : Fin 128) (r : ℝ) (h : M (ix2 s d) = (r : EReal)) :
    select (cmpf .ogt M (val_main_v19 (F := Ideal))) M (val_main_call1_v1 (F := Ideal)) (ix2 s d) = (r : EReal) := by
  pointwise [val_main_v19, val_main_cst_3]
  rw [minus_inf, h]
  exact if_pos (EReal.bot_lt_coe r)

theorem guard_at (s : Fin 256) (d : Fin 128) (r : ℝ) (h : val_main_v18 (F := Ideal) X I W B (ix2 s d) = (r : EReal)) :
    val_main_v21 (F := Ideal) X I W B (ix2 s d) = (r : EReal) := by
  unfold val_main_v21 val_main_v20
  exact guard_any _ s d r h

/-- A nonempty segment's guarded maximum is a real number; an empty one's is never asked for. -/
theorem peak_at (s : Fin 256) (d : Fin 128) :
    ∃ r : ℝ, ∀ n ∈ members I s, val_main_v21 (F := Ideal) X I W B (ix2 s d) = (r : EReal) := by
  by_cases h : ∃ n, n ∈ members I s
  · obtain ⟨n, hn⟩ := h
    obtain ⟨r, hr⟩ := peak_real (fun n => I (ix1 n) = BitVec.ofNat 32 s.val) (fun n => gate X W B n d) n (Finset.mem_filter.1 hn).2
    exact ⟨r, fun _ _ => guard_at X I W B s d r ((max_at X I W B s d).trans hr)⟩
  · exact ⟨0, fun n hn => absurd ⟨n, hn⟩ h⟩

/-- A member's own number is not negative, so it is used as it is. -/
theorem wrap_at (n : Fin 100000) (s : Fin 256) (h : n ∈ members I s) :
    val_main_v27 (F := Ideal) I (ix2 n 0) = BitVec.ofNat 32 s.val := by
  have h' : I (ix1 n) = BitVec.ofNat 32 s.val := (Finset.mem_filter.1 h).2
  pointwise [val_main_v27, val_main_v26, val_main_v25, val_main_v24, val_main_v23, val_main_v22, val_main_c, val_main_c_5]
  rw [h']
  show (if BitVec.ofBool (BitVec.slt (BitVec.ofNat 32 s.val) 0#32) = 1#1 then _ else BitVec.ofNat 32 s.val) = _
  rw [word_nonneg]
  rfl

theorem wrap2 : @val_main_v39 Ideal = @val_main_v27 Ideal := rfl
theorem wrap3 : @val_main_v46 Ideal = @val_main_v27 Ideal := rfl

/-- A member's weight, in units of the segment's largest. -/
theorem weight_at (n : Fin 100000) (s : Fin 256) (d : Fin 128) (r : ℝ) (hn : n ∈ members I s)
    (h : val_main_v21 (F := Ideal) X I W B (ix2 s d) = (r : EReal)) :
    val_main_v30 (F := Ideal) X I W B (ix2 n d) = Ideal.exp ((gate X W B n d : EReal) - (r : EReal)) := by
  have e : val_main_v28 (F := Ideal) X I W B (ix2 n d) = (r : EReal) :=
    (gather_row (val_main_v21 (F := Ideal) X I W B) _ n d s (wrap_at I n s hn)).trans h
  rw [← e, ← gate_at]
  rfl

/-- The segment's total weight. -/
theorem denom_at (s : Fin 256) (d : Fin 128) (r : ℝ) (h : ∀ n ∈ members I s, val_main_v21 (F := Ideal) X I W B (ix2 s d) = (r : EReal)) :
    val_main_v33 (F := Ideal) X I W B (ix2 s d) = ∑ n ∈ members I s, Ideal.exp ((gate X W B n d : EReal) - (r : EReal)) := by
  refine (segment_sum (val_main_v31 (F := Ideal)) I (val_main_v32 (F := Ideal) I) (val_main_v30 (F := Ideal) X I W B) (fun n => ?_) s d ?_).trans ?_
  · pointwise [val_main_v32]
  · pointwise [val_main_v31, val_main_cst_6]
  · exact Finset.sum_congr rfl fun n hn => weight_at X I W B n s d r hn (h n hn)

/-- A share times its row, out of the gathered total, the gathered maximum and the weight. -/
theorem share_any (A C E X : FVec Ideal S100000x128 .f32) (n : Fin 100000) (d : Fin 128) :
    mulf (Host.divf E (addf A (mulf (val_main_v51 (F := Ideal)) (Host.exp (subf (val_main_v48 (F := Ideal)) C))))) X (ix2 n d)
      = Ideal.div (E (ix2 n d)) (A (ix2 n d) + Ideal.ofBits .f32 0x24E69595#32 * Ideal.exp (((1 / 2 : ℝ) : EReal) - C (ix2 n d))) * X (ix2 n d) := by
  rw [← half_bits]
  pointwise [val_main_v51, val_main_cst_12, val_main_v48, val_main_cst_11]

theorem total_read (n : Fin 100000) (s : Fin 256) (d : Fin 128) (hn : n ∈ members I s) :
    val_main_v40 (F := Ideal) X I W B (ix2 n d) = val_main_v33 (F := Ideal) X I W B (ix2 s d) := by
  unfold val_main_v40
  exact gather_row (val_main_v33 (F := Ideal) X I W B) (val_main_v39 (F := Ideal) I) n d s ((congrFun (congrFun wrap2 I) (ix2 n 0)).trans (wrap_at I n s hn))

theorem max_read (n : Fin 100000) (s : Fin 256) (d : Fin 128) (hn : n ∈ members I s) :
    val_main_v47 (F := Ideal) X I W B (ix2 n d) = val_main_v21 (F := Ideal) X I W B (ix2 s d) := by
  unfold val_main_v47
  exact gather_row (val_main_v21 (F := Ideal) X I W B) (val_main_v46 (F := Ideal) I) n d s ((congrFun (congrFun wrap3 I) (ix2 n 0)).trans (wrap_at I n s hn))

theorem share_unfold : val_main_v55 (F := Ideal) X I W B
    = mulf (Host.divf (val_main_v30 (F := Ideal) X I W B) (addf (val_main_v40 (F := Ideal) X I W B)
        (mulf (val_main_v51 (F := Ideal)) (Host.exp (subf (val_main_v48 (F := Ideal)) (val_main_v47 (F := Ideal) X I W B)))))) X := by
  unfold val_main_v55 val_main_v54 val_main_v53 val_main_v52 val_main_v50 val_main_v49
  rfl

/-- A member's share times its row. -/
theorem share_at (n : Fin 100000) (s : Fin 256) (d : Fin 128) (r : ℝ) (hn : n ∈ members I s)
    (h : ∀ n ∈ members I s, val_main_v21 (F := Ideal) X I W B (ix2 s d) = (r : EReal)) :
    val_main_v55 (F := Ideal) X I W B (ix2 n d)
      = Ideal.div (Ideal.exp ((gate X W B n d : EReal) - (r : EReal)))
          ((∑ k ∈ members I s, Ideal.exp ((gate X W B k d : EReal) - (r : EReal)))
            + Ideal.ofBits .f32 0x24E69595#32 * Ideal.exp (((1 / 2 : ℝ) : EReal) - (r : EReal))) * X (ix2 n d) := by
  rw [share_unfold, share_any, total_read X I W B n s d hn, max_read X I W B n s d hn, weight_at X I W B n s d r hn (h n hn),
    denom_at X I W B s d r h, h n hn]

/-- One aggregation of the reference, at a segment and a column. -/
theorem plane_at (s : Fin 256) (d : Fin 128) :
    val_main_v58 (F := Ideal) X I W B (ix2 s d)
      = Ideal.div (∑ n ∈ members I s, ((Real.exp (gate X W B n d - 1 / 2) : ℝ) : EReal) * X (ix2 n d))
          ((∑ n ∈ members I s, ((Real.exp (gate X W B n d - 1 / 2) : ℝ) : EReal)) + Ideal.ofBits .f32 0x24E69595#32) := by
  obtain ⟨r, h⟩ := peak_at X I W B s d
  obtain ⟨ε, hε, he⟩ := guard_bits
  refine (segment_sum (val_main_v56 (F := Ideal)) I (val_main_v57 (F := Ideal) I) (val_main_v55 (F := Ideal) X I W B) (fun n => ?_) s d ?_).trans ?_
  · pointwise [val_main_v57]
  · pointwise [val_main_v56, val_main_cst_13]
  · rw [he]
    refine Eq.trans ?_ (aggregate (members I s) (fun n => gate X W B n d) (fun n => X (ix2 n d)) r ε hε)
    rw [← he]
    exact Finset.sum_congr rfl fun n hn => share_at X I W B n s d r hn h

end Plane

theorem second_plane : @val_main_v117 Ideal = @val_main_v58 Ideal := rfl

theorem third_plane : @val_main_v176 Ideal = @val_main_v58 Ideal := rfl

end Cert.ReferenceIdeal.Agg
-- ==== Proof.Equal.lean ====
module

public import proofs.«01_k».proof.Proof.Steps
public import proofs.«01_k».proof.Proof.Ref

@[expose] public section

set_option maxRecDepth 16384

noncomputable section

namespace Cert.ReferenceIdeal.Agg

open Idealize.ShloMosaic Idealize.ShloMosaic.TcCoe Idealize.SL.Sem
open Cert.ReferenceIdeal Cert.ReferenceIdeal.Gen Cert.ReferenceIdeal.Read Cert.Agg

/-- The joined aggregations times the weights, plus the bias, entry by entry. -/
theorem project_at (A0 A1 A2 : FVec Ideal S256x128 .f32) (w : FVec Ideal S384x256 .f32) (b : FVec Ideal S256 .f32) (s j : Fin 256) :
    addf (Host.dotGeneral dot_S256x384_S384x256_S256x256_1_0_0_1_n_n none
        (concatenate S256x384 1 [⟨S256x128, A0⟩, ⟨S256x128, A1⟩, ⟨S256x128, A2⟩] concatenates_S256x128_S256x128_S256x128_S256x384_d1 : FVec Ideal S256x384 .f32) w)
        (val_main_v180 (F := Ideal) b) (ix2 s j)
      = b (ix1 j)
        + (∑ d : Fin 128, A0 (ix2 s d) * w (ix2 ⟨0 * 128 + d.val, by omega⟩ j))
        + (∑ d : Fin 128, A1 (ix2 s d) * w (ix2 ⟨1 * 128 + d.val, by omega⟩ j))
        + (∑ d : Fin 128, A2 (ix2 s d) * w (ix2 ⟨2 * 128 + d.val, by omega⟩ j)) := by
  pointwise [val_main_v180, val_main_v179]
  rw [Fin.sum_univ_tiles 3 128 rfl, Fin.sum_univ_three, add_comm]
  simp only [← add_assoc]
  refine congrArg₂ (fun a b : EReal => a + b) (congrArg₂ (fun a b : EReal => a + b) (congrArg (fun a : EReal => b (ix1 j) + a) ?_) ?_) ?_
  · refine Finset.sum_congr rfl fun d _ => ?_
    have hd := d.isLt
    rw [dif_pos (by show 0 * 128 + d.val < 128; omega)]
    exact congrArg₂ (fun (a : Fin 128) (k : Fin 384) => A0 (ix2 s a) * w (ix2 k j)) (Fin.ext (by show 0 * 128 + d.val = d.val; omega)) (Fin.ext (by show 0 * 128 + d.val = d.val; omega))
  · refine Finset.sum_congr rfl fun d _ => ?_
    have hd := d.isLt
    rw [dif_neg (by show ¬ 1 * 128 + d.val < 128; omega), dif_pos (by show 1 * 128 + d.val - 128 < 128; omega)]
    exact congrArg₂ (fun (a : Fin 128) (k : Fin 384) => A1 (ix2 s a) * w (ix2 k j)) (Fin.ext (by show 1 * 128 + d.val - 128 = d.val; omega)) (Fin.ext (by show 1 * 128 + d.val = 128 + d.val; omega))
  · refine Finset.sum_congr rfl fun d _ => ?_
    have hd := d.isLt
    rw [dif_neg (by show ¬ 2 * 128 + d.val < 128; omega), dif_neg (by show ¬ 2 * 128 + d.val - 128 < 128; omega)]
    exact congrArg₂ (fun (a : Fin 128) (k : Fin 384) => A2 (ix2 s a) * w (ix2 k j)) (Fin.ext (by show 2 * 128 + d.val - 128 - 128 = d.val; omega)) (Fin.ext (by show 2 * 128 + d.val = 256 + d.val; omega))

section Plane

variable (X : FVec Ideal S100000x128 .f32) (I : IVec S100000 32) (W : FVec Ideal S128x128 .f32) (B : FVec Ideal S128 .f32)

/-- The kernel's left columns hold the segment's total weight. -/
theorem total_left (s : Fin 256) (d : Fin 128) :
    Cert.KernelIdeal.Agg.total X I W B s ⟨d.val, by omega⟩ = ∑ n ∈ members I s, ((Real.exp (gate X W B n d - 1 / 2) : ℝ) : EReal) := by
  unfold Cert.KernelIdeal.Agg.total Cert.KernelIdeal.Agg.broughtTo members
  rw [← Finset.sum_filter]
  refine Finset.sum_congr rfl fun n _ => ?_
  unfold brings
  rw [dif_pos d.isLt]
  rfl

/-- The kernel's right columns hold the segment's weighted rows. -/
theorem total_right (s : Fin 256) (d : Fin 128) :
    Cert.KernelIdeal.Agg.total X I W B s ⟨128 + d.val, by omega⟩
      = ∑ n ∈ members I s, ((Real.exp (gate X W B n d - 1 / 2) : ℝ) : EReal) * X (ix2 n d) := by
  unfold Cert.KernelIdeal.Agg.total Cert.KernelIdeal.Agg.broughtTo members
  rw [← Finset.sum_filter]
  refine Finset.sum_congr rfl fun n _ => ?_
  unfold brings
  rw [dif_neg (by show ¬ 128 + d.val < 128; omega)]
  have e : (⟨128 + d.val - 128, by omega⟩ : Fin 128) = d := Fin.ext (by show 128 + d.val - 128 = d.val; omega)
  exact congrArg (fun k : Fin 128 => wt (score (fun l => X (ix2 n l)) (fun l d => W (ix2 l d)) (fun d => B (ix1 d)) k) * X (ix2 n k)) e

/-- One plane: the kernel's contribution is the reference's aggregation times the weights. -/
theorem plane_eq (w : Fin 128 → EReal) (s : Fin 256) :
    Cert.KernelIdeal.Agg.finish (Cert.KernelIdeal.Agg.total X I W B s) w
      = ∑ d : Fin 128, val_main_v58 (F := Ideal) X I W B (ix2 s d) * w d := by
  unfold Cert.KernelIdeal.Agg.finish
  refine Finset.sum_congr rfl fun d _ => ?_
  rw [plane_at, total_left, total_right]

end Plane

/-- The reference's term of the kernel's arguments is the kernel's result. -/
theorem result_eq (m : (ℓ : Loc Cert.KernelIdeal.nD Cert.KernelIdeal.τ Cert.KernelIdeal.sig) → Buf (Elt Ideal) ℓ) (c : Dev Cert.KernelIdeal.nD) :
    val_main_v181 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Value.G14 m c := by
  funext i
  obtain ⟨s, j, rfl⟩ : ∃ s j : Fin 256, i = ix2 s j := ⟨i 0, i 1, (ix2_eta i).symm⟩
  refine Eq.trans ?_ (Cert.KernelIdeal.Agg.result_at m c s j).symm
  unfold val_main_v181 val_main_v178 val_main_v177
  refine (project_at _ _ _ _ _ s j).trans ?_
  rw [second_plane, third_plane, plane_eq, plane_eq, plane_eq]

end Cert.ReferenceIdeal.Agg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init
public import Idealize.ShloMosaic.Lib.Quiescent
public import Idealize.ShloMosaic.Lib.Claim

@[expose] public section

set_option maxRecDepth 16384

noncomputable section

namespace Cert.Proof

open Idealize.ShloMosaic Idealize.ShloMosaic.TcCoe Idealize.ShloMosaic.StableHlo Idealize.SL.Sem

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "half_log2e" .f32 0x3F38AA3B#32 (((1 / 2) * (Real.log 2)⁻¹ : ℝ) : EReal) rfl

/-- The kernel's result and the reference's are the same extended reals, on every input. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  refine (Cert.ReferenceIdeal.Read.val_main_v181_eq (launchContents m' c)).trans ?_
  refine Eq.trans ?_ (Cert.ReferenceIdeal.Agg.result_eq m c)
  rw [← h0, ← h1, ← h2, ← h3, ← h4, ← h5, ← h6, ← h7, ← h8, ← h9, ← h10, ← h11, ← h12, ← h13]

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, preserves, algebraic⟩

end Cert.Proof

end
